-- ==== Defs.lean ====
def Pre_Kernel [hPre_layer_in_range : Cert.Pre_layer_in_range.Facts] (m : (ℓ : Loc Cert.Kernel.nD Cert.Kernel.τ Cert.Kernel.sig) → Buf (Elt Bits) ℓ) : Prop :=
  ∀ c : Dev Cert.Kernel.nD,
    (Cert.Pre_layer_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_layer_in_range : Cert.Pre_layer_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_layer_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_layer_in_range [hPre_layer_in_range : Cert.Pre_layer_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_layer_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_layer_in_range : Cert.Pre_layer_in_range.Facts] (m : (ℓ : Loc Cert.Reference.nD Cert.Reference.τ Cert.Reference.sig) → Buf (Elt Bits) ℓ) : Prop :=
  ∀ c : Dev Cert.Reference.nD,
    (Cert.Pre_layer_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_layer_in_range : Cert.Pre_layer_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_layer_in_range : Cert.Pre_layer_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_layer_in_range [hReferenceIdeal : Cert.ReferenceIdeal.Facts] [hPre_layer_in_range : Cert.Pre_layer_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_layer_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_layer_in_range : Cert.Pre_layer_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_layer_in_range : Cert.Pre_layer_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_layer_in_range : Cert.Pre_layer_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v3)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v13) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_layer_in_range : Cert.Pre_layer_in_range.Facts),
    quiescent_Kernel (hKernel := hKernel) (hPre_layer_in_range := hPre_layer_in_range)
    ∧ quiescent_KernelIdeal (hKernelIdeal := hKernelIdeal) (hPre_layer_in_range := hPre_layer_in_range)
    ∧ quiescent_ReferenceIdeal (hReferenceIdeal := hReferenceIdeal)
    ∧ quiescent_ReferenceIdeal_pre_layer_in_range (hReferenceIdeal := hReferenceIdeal) (hPre_layer_in_range := hPre_layer_in_range)
    ∧ quiescent_Reference (hReference := hReference) (hPre_layer_in_range := hPre_layer_in_range)
    ∧ preserves_Kernel_KernelIdeal
    ∧ algebraic_KernelIdeal_ReferenceIdeal (hKernelIdeal := hKernelIdeal) (hReferenceIdeal := hReferenceIdeal) (hPre_layer_in_range := hPre_layer_in_range)
    ∧ bitexact_Kernel_Reference (hKernel := hKernel) (hReference := hReference) (hPre_layer_in_range := hPre_layer_in_range)
-- ==== Pre_layer_in_range.lean ====
abbrev S_ : Shape := ⟨0, ![]⟩
abbrev S48x1x1x4096 : Shape := ⟨4, ![48, 1, 1, 4096]⟩

class Facts : Prop where

variable [Facts]

def fn {F : FTy → Type} [FloatOps F] (main_arg0 : IVec S_ 32) (main_arg1 : FVec F S48x1x1x4096 .f32) : IVec S_ 1 :=
  let main_c : IVec S_ 32 := constantI S_ 32 0#32
  let main_v0 : IVec S_ 1 := cmpi .sge main_arg0 main_c
  let main_c_0 : IVec S_ 32 := constantI S_ 32 48#32
  let main_v1 : IVec S_ 1 := cmpi .slt main_arg0 main_c_0
  let main_v2 : IVec S_ 1 := andi main_v0 main_v1
  main_v2
-- ==== Kernel.lean ====
abbrev S_ : Shape := ⟨0, ![]⟩
abbrev S48x1x1x4096 : Shape := ⟨4, ![48, 1, 1, 4096]⟩
abbrev S1 : Shape := ⟨1, ![1]⟩
abbrev S48x4096 : Shape := ⟨2, ![48, 4096]⟩
abbrev S1x4096 : Shape := ⟨2, ![1, 4096]⟩
abbrev S1x1x4096 : Shape := ⟨3, ![1, 1, 4096]⟩

abbrev nBuf : Table → Nat
  | .hbm => 6
  | .local .scScalar .smem => 1
  | _ => 0

abbrev bufTy : (tb : Table) → Fin (nBuf tb) → BufTy
  | .hbm, ⟨0, _⟩ => ⟨S_, .i32⟩
  | .hbm, ⟨1, _⟩ => ⟨S48x1x1x4096, .f32⟩
  | .hbm, ⟨2, _⟩ => ⟨S1, .i32⟩
  | .hbm, ⟨3, _⟩ => ⟨S48x4096, .f32⟩
  | .hbm, ⟨4, _⟩ => ⟨S1x4096, .f32⟩
  | .hbm, ⟨5, _⟩ => ⟨S1x1x4096, .f32⟩
  | .local .scScalar .smem, ⟨0, _⟩ => ⟨S1, .i32⟩
  | _, _ => ⟨S_, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scs : Ref sig .scScalar := ⟨.hbm, 2, rfl⟩
abbrev main_v1_scs : Ref sig .scScalar := ⟨.hbm, 3, rfl⟩
abbrev main_v2_scs : Ref sig .scScalar := ⟨.hbm, 4, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v1 : BitVec 32) : Fin 2 → Nat :=
  let c0_i32_0_r1 : BitVec 32 := 0#32
  ![v1.toNat, 0]

def k0_chk1 (v1 : BitVec 32) : Prop :=
  (∀ a, (k0_off1 v1) a + S1x4096.size a ≤ S48x4096.size a)
theorem k0_off1_inb : ∀ (v1 : BitVec 32) (k0_hw1 : k0_chk1 v1), ∀ a, (k0_off1 v1) a + S1x4096.size a ≤ S48x4096.size a := fun v1 k0_hw1 => k0_hw1

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S_ : Shape := ⟨0, ![]⟩
abbrev S48x1x1x4096 : Shape := ⟨4, ![48, 1, 1, 4096]⟩
abbrev S1x1x1x4096 : Shape := ⟨4, ![1, 1, 1, 4096]⟩
abbrev S1x1x4096 : Shape := ⟨3, ![1, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S_, .i32⟩
  | .hbm, ⟨1, _⟩ => ⟨S48x1x1x4096, .f32⟩
  | .hbm, ⟨2, _⟩ => ⟨S_, .i32⟩
  | .hbm, ⟨3, _⟩ => ⟨S_, .i1⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1x1x1x4096, .f32⟩
  | .hbm, ⟨32, _⟩ => ⟨S1x1x4096, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_c_2 : Ref sig .tc := ⟨.hbm, 8, rfl⟩
abbrev main_v3 : Ref sig .tc := ⟨.hbm, 9, rfl⟩
abbrev main_c_3 : Ref sig .tc := ⟨.hbm, 10, rfl⟩
abbrev main_c_4 : Ref sig .tc := ⟨.hbm, 11, rfl⟩
abbrev main_v4 : Ref sig .tc := ⟨.hbm, 12, rfl⟩
abbrev main_c_5 : Ref sig .tc := ⟨.hbm, 13, rfl⟩
abbrev main_v5 : Ref sig .tc := ⟨.hbm, 14, rfl⟩
abbrev main_c_6 : Ref sig .tc := ⟨.hbm, 15, rfl⟩
abbrev main_c_7 : Ref sig .tc := ⟨.hbm, 16, rfl⟩
abbrev main_v6 : Ref sig .tc := ⟨.hbm, 17, rfl⟩
abbrev main_c_8 : Ref sig .tc := ⟨.hbm, 18, rfl⟩
abbrev main_c_9 : Ref sig .tc := ⟨.hbm, 19, rfl⟩
abbrev main_v7 : Ref sig .tc := ⟨.hbm, 20, rfl⟩
abbrev main_c_10 : Ref sig .tc := ⟨.hbm, 21, rfl⟩
abbrev main_v8 : Ref sig .tc := ⟨.hbm, 22, rfl⟩
abbrev main_c_11 : Ref sig .tc := ⟨.hbm, 23, rfl⟩
abbrev main_c_12 : Ref sig .tc := ⟨.hbm, 24, rfl⟩
abbrev main_v9 : Ref sig .tc := ⟨.hbm, 25, rfl⟩
abbrev main_c_13 : Ref sig .tc := ⟨.hbm, 26, rfl⟩
abbrev main_c_14 : Ref sig .tc := ⟨.hbm, 27, rfl⟩
abbrev main_v10 : Ref sig .tc := ⟨.hbm, 28, rfl⟩
abbrev main_c_15 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Proof.Body.lean ====
/-
  The sequencer's body: the row's number copied from HBM into the sequencer's scalar memory and waited for, the number
  read there, then the row of the table that it names copied straight to the result and waited for.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.LayerRow

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem kFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds beside the local transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

local notation "idxW" => (Memref.whole Cert.KernelIdeal.main_v0_scs : Memref Cert.KernelIdeal.sig Kind.scScalar Space.hbm Cert.KernelIdeal.S1 EltTy.i32)
local notation "tblW" => (Memref.whole Cert.KernelIdeal.main_v1_scs : Memref Cert.KernelIdeal.sig Kind.scScalar Space.hbm Cert.KernelIdeal.S48x4096 EltTy.f32)
local notation "outW" => (Memref.whole Cert.KernelIdeal.main_v2_scs : Memref Cert.KernelIdeal.sig Kind.scScalar Space.hbm Cert.KernelIdeal.S1x4096 EltTy.f32)
local notation "numW" => (Memref.whole Cert.KernelIdeal.cc0_scratch0 : Memref Cert.KernelIdeal.sig Kind.scScalar Space.smem Cert.KernelIdeal.S1 EltTy.i32)

variable [FloatOps F]

section Body

variable (d : Dev nD)

def coordsS (c : Fin (grid0.bound 0)) : grid0.Coords := fun | 0 => c | ⟨_ + 1, h⟩ => absurd h (Nat.not_lt.2 (Nat.le_add_left _ _))

/-- SparseCore 0's sequencer. -/
abbrev S0 (h : 0 < grid0.bound 0) : Thread nD τ := S d ((⟨0, h⟩ : Fin (grid0.bound 0)).castLE hcore0)

/-- Row `w` of a 48 × 4096 table, as a 1 × 4096 array: entry `(0, c)` is the table's entry `(w, c)`. -/
def rowOf {α : Type} (t : S48x4096.Idx → α) (w : BitVec 32) (hw : k0_chk1 w) : S1x4096.Idx → α :=
  fun j => t fun a => ⟨k0_off1 w a + (j a).val, Nat.lt_of_lt_of_le (Nat.add_lt_add_left (j a).isLt _) (hw a)⟩

/-- The table read through the slice that a word equal to `w` names is row `w`. -/
theorem read_row (h : 0 < grid0.bound 0) (ft : Buf (Elt F) ((tblW).view.loc (S0 d h))) (w' : BitVec 32) (hw' : k0_chk1 w')
    (w : BitVec 32) (hw : k0_chk1 w) (e : w' = w) :
    View.read (Elt F) ((tblW).slice (Rect.unit (s := S48x4096) (k0_off1 w') S1x4096.size (k0_off1_inb w' hw')) (fun _ => rfl)).view ft
      = (rowOf ft w hw : S1x4096.Idx → Elt F .f32) := by
  subst e
  funext j
  rw [View.read_apply]
  refine congrArg ft (funext fun a => Fin.ext ?_)
  show k0_off1 w' a + 1 * (j a).val = k0_off1 w' a + (j a).val
  rw [Nat.one_mul]

/-- The body, run on SparseCore 0's sequencer where the number's array holds the word `w`, which names a row: it ends with
    the two arrays it reads as they were, row `w` of the table in the result, both its semaphores at zero. -/
theorem seq_run (h : 0 < grid0.bound 0) (O : CellTallies nD τ sig (HIx 1)) (W : Waits sig (HIx 1))
    (fi : Buf (Elt F) ((idxW).view.loc (S0 d h))) (ft : Buf (Elt F) ((tblW).view.loc (S0 d h)))
    (fo : Buf (Elt F) ((outW).view.loc (S0 d h))) (fs : Buf (Elt F) ((numW).view.loc (S0 d h)))
    (w : BitVec 32) (hfi : fi = (fun _ => w : S1.Idx → BitVec 32)) (hrow : k0_chk1 w) :
    (iprop(Transfers.MayWaits (S0 d h) (none : HIx 1) O
        ∗ ((idxW).view.loc (S0 d h) ↦{fullShare} fi)
        ∗ ((tblW).view.loc (S0 d h) ↦{fullShare} ft)
        ∗ ((outW).view.loc (S0 d h) ↦{fullShare} fo)
        ∗ ((numW).view.loc (S0 d h) ↦{fullShare} fs)
        ∗ semVal (S0 d h, SemLoc.dma cc0_scoped0.sem) 0
        ∗ semVal (S0 d h, SemLoc.dma cc0_scoped1.sem) 0
        ∗ owes (S0 d h) O W) : sProp 𝕄)
      ⊢ wp frame (wpE (defs₀ (F := F)) 𝒱₀ (S0 d h) none) Set.univ
          (cc0__gather_row (coordsS ⟨0, h⟩) idxW (Memref.isWhole_whole _) tblW (Memref.isWhole_whole _)
            outW (Memref.isWhole_whole _) numW (Memref.isWhole_whole _) cc0_scoped0 cc0_scoped1)
          fun _ => iprop(((idxW).view.loc (S0 d h) ↦{fullShare} fi)
            ∗ ((tblW).view.loc (S0 d h) ↦{fullShare} ft)
            ∗ ((outW).view.loc (S0 d h) ↦{fullShare} (rowOf ft w hrow : S1x4096.Idx → Elt F .f32))
            ∗ (∃ f, (numW).view.loc (S0 d h) ↦{fullShare} f)
            ∗ semVal (S0 d h, SemLoc.dma cc0_scoped0.sem) 0
            ∗ semVal (S0 d h, SemLoc.dma cc0_scoped1.sem) 0
            ∗ ∃ W', owes (S0 d h) O W') := by
  iintro ⟨#Hmw, Hi, Ht, Ho, Hs, Hc0, Hc1, HO⟩
  sl_unfold [cc0__gather_row]
  sl_exec (disch := (subst hfi; exact hrow))
  have hout : View.write (Elt F) (outW).view fo (seq_run.sl.dma1 d h fi ft fs w hfi hrow) Finset.univ
      = (rowOf ft w hrow : S1x4096.Idx → Elt F .f32) := by
    refine (View.write_whole_univ _ _ _).trans ?_
    have hr : seq_run.sl.r d h fi fs = w := by
      unfold seq_run.sl.r seq_run.sl.dma0
      rw [show View.write (Elt F) (numW).view fs (ReadAs.same.apply (View.read (Elt F) (idxW).view fi)) Finset.univ
          = (fun _ => w : S1.Idx → BitVec 32) from (View.write_whole_univ _ _ _).trans hfi]
      rfl
    unfold seq_run.sl.dma1
    exact read_row d h ft _ (hr.symm ▸ hrow) w hrow hr
  ihave Ho' := (Entails.of_eq (congrArg (fun f => ((outW).view.loc (S0 d h) ↦{fullShare} f : sProp 𝕄)) hout)) $$ Ho
  sl_step
  isplitl [Hi]; · iexact Hi
  isplitl [Ht]; · iexact Ht
  isplitl [Ho']; · iexact Ho'
  isplitl [Hs]; · iexists _; iexact Hs
  isplitl [Hc0]; · iexact Hc0
  isplitl [Hc1]; · iexact Hc1
  iexists _; iexact HO

/-! ## The body among all that the sequencer holds -/

abbrev cell₀ (c : Fin τ.nSC) : GSem nD τ sig := (S d c, SemLoc.dma cc0_scoped0.sem)
abbrev cell₁ (c : Fin τ.nSC) : GSem nD τ sig := (S d c, SemLoc.dma cc0_scoped1.sem)

omit [FloatOps F] in
/-- The sequencer's own semaphores at zero: the body's two, and the rest. -/
theorem sems_split (c : Fin τ.nSC) :
    (ownSems0 (S d c) : sProp 𝕄) = iprop(semVal (cell₀ d c) 0 ∗ semVal (cell₁ d c) 0
      ∗ bigSep (((ownCells (S d c)).erase (cell₀ d c)).erase (cell₁ d c)) fun g => semVal g 0) := by
  have hs : ∀ s : DmaSem sig, (SemLoc.dma s : SemLoc sig).isScoped .scScalar = true := by decide
  have hne : cell₁ d c ≠ cell₀ d c := fun e =>
    absurd (congrArg Prod.snd e) (show (SemLoc.dma cc0_scoped1.sem : SemLoc sig) ≠ SemLoc.dma cc0_scoped0.sem by decide)
  unfold SparseCore.Cfg.ownSems0
  rw [SparseCore.bigSep_erase' (mem_ownCells.mpr ⟨rfl, hs _⟩ : cell₀ d c ∈ ownCells (S d c)),
    SparseCore.bigSep_erase' (Finset.mem_erase.mpr ⟨hne, mem_ownCells.mpr ⟨rfl, hs _⟩⟩ : cell₁ d c ∈ (ownCells (S d c)).erase (cell₀ d c))]

omit [FloatOps F] in
/-- The sequencer's own buffers: the scalar memory's word, whatever it holds, and the rest. -/
theorem bufs_split (c : Fin τ.nSC) :
    (ownBufs (S d c) : sProp 𝕄) = iprop((∃ f, (numW).view.loc (S d c) ↦{fullShare} f)
      ∗ bigSep ((ownRefs (τ := τ) (.scScalar c)).erase ((Proc.scScalar c).devRef cc0_scratch0)) fun b => iprop(∃ f, ((d, b) : Loc nD τ sig) ↦{fullShare} f)) := by
  unfold SparseCore.Cfg.ownBufs
  exact SparseCore.bigSep_erase' ((mem_ownRefs (p := Proc.scScalar c) (b := (Proc.scScalar c).devRef cc0_scratch0)).mpr rfl)

/-- The arrays as the TensorCore names them. -/
abbrev idxLoc (d : Dev nD) : Loc nD τ sig := (SparseCore.T d).loc main_v0
abbrev tblLoc (d : Dev nD) : Loc nD τ sig := (SparseCore.T d).loc main_v1
abbrev outLoc (d : Dev nD) : Loc nD τ sig := (SparseCore.T d).loc main_v2

/-- What the call is handed: the row's number `w`, the table `t`, and the result's array at anything. -/
abbrev handed (w : BitVec 32) (t : S48x4096.Idx → Elt F .f32) : sProp 𝕄 :=
  iprop((idxLoc d ↦{fullShare} (fun _ => w : S1.Idx → BitVec 32)) ∗ (tblLoc d ↦{fullShare} t) ∗ ∃ f, outLoc d ↦{fullShare} f)

/-- What it hands back: the same number and table, and row `w` in the result's array. -/
abbrev returned (w : BitVec 32) (hw : k0_chk1 w) (t : S48x4096.Idx → Elt F .f32) : sProp 𝕄 :=
  iprop((idxLoc d ↦{fullShare} (fun _ => w : S1.Idx → BitVec 32)) ∗ (tblLoc d ↦{fullShare} t)
    ∗ outLoc d ↦{fullShare} (rowOf t w hw : S1x4096.Idx → Elt F .f32))

/-- `seq_run` from what the launch hands the sequencer to what it takes back. -/
theorem seq_task (h : 0 < grid0.bound 0) (O : CellTallies nD τ sig (HIx 1)) (W : Waits sig (HIx 1)) (hO : ∀ g, O g none = 0)
    (w : BitVec 32) (hw : k0_chk1 w) (t : S48x4096.Idx → Elt F .f32) :
    iprop(levAts (K (F := F)).L (K (F := F)).lev ∗ emp ∗ handed d w t
        ∗ scopedBufs (S0 d h) ∗ scopedSems0 (S0 d h) ∗ owes (S0 d h) O W)
      ⊢ wp frame (wpE (defs₀ (F := F)) 𝒱₀ (S0 d h) none) Set.univ
          (cc0__gather_row (coordsS ⟨0, h⟩) idxW (Memref.isWhole_whole _) tblW (Memref.isWhole_whole _)
            outW (Memref.isWhole_whole _) numW (Memref.isWhole_whole _) cc0_scoped0 cc0_scoped1)
          fun _ => iprop(returned d w hw t ∗ scopedBufs (S0 d h) ∗ scopedSems0 (S0 d h)
            ∗ ∃ W', ⌜∀ p ∈ W', p ∈ W ∨ p.2 = none ∨ p.2 = some (0 : Fin 1)⌝ ∗ owes (S0 d h) O W') := by
  rw [(K (F := F)).scopedBufs_S kFacts d _, SparseCore.Cfg.scopedSems0_S (Val := Elt F) d _, sems_split, bufs_split]
  iintro ⟨#Hlv, -, ⟨Hi, Ht, %fo, Ho⟩, ⟨⟨⟨%fs, Hs⟩, Hbufs⟩, Htiles⟩, ⟨⟨Hc0, Hc1, Hsems⟩, HtileSems⟩, HO⟩
  ihave Hmw := ((K (F := F)).mayWaits_none (thr := S0 d h) hO) $$ Hlv
  iapply (wp_wand_r Idealize.ShloMosaic.frame (wpE (defs₀ (F := F)) 𝒱₀ (S0 d h) none) Set.univ)
  isplitl [Hi Ht Ho Hs Hc0 Hc1 HO]
  · iapply (seq_run d h O W (fun _ => w : S1.Idx → BitVec 32) t fo fs w rfl hw)
    isplitr; · iexact Hmw
    isplitl [Hi]; · iexact Hi
    isplitl [Ht]; · iexact Ht
    isplitl [Ho]; · iexact Ho
    isplitl [Hs]; · iexact Hs
    isplitl [Hc0]; · iexact Hc0
    isplitl [Hc1]; · iexact Hc1
    iexact HO
  iintro %_ ⟨Hi, Ht, Ho, Hs, Hc0, Hc1, %W', HO⟩
  isplitl [Hi Ht Ho]
  · isplitl [Hi]; · iexact Hi
    isplitl [Ht]; · iexact Ht
    iexact Ho
  isplitl [Hs Hbufs Htiles]
  · isplitl [Hs Hbufs]
    · isplitl [Hs]; · iexact Hs
      iexact Hbufs
    iexact Htiles
  isplitl [Hc0 Hc1 Hsems HtileSems]
  · isplitl [Hc0 Hc1 Hsems]
    · isplitl [Hc0]; · iexact Hc0
      isplitl [Hc1]; · iexact Hc1
      iexact Hsems
    iexact HtileSems
  iexists W'; isplitr
  · ipureintro; intro p _
    rcases p.2 with _ | q
    · exact .inr (.inl rfl)
    · exact .inr (.inr (congrArg some (Subsingleton.elim q 0)))
  · iexact HO

/-- What the call's label runs on a sequencer: the printed body, on the cores the call names. -/
theorem defs₀_row (c : Fin τ.nSC) :
    defs₀ (F := F) (.scScalar c) 0 ()
      = SparseCore.onCore hcore0 (fun c => cc0__gather_row (coordsS c) idxW (Memref.isWhole_whole _) tblW (Memref.isWhole_whole _)
            outW (Memref.isWhole_whole _) numW (Memref.isWhole_whole _) cc0_scoped0 cc0_scoped1) ⟨⟩ c := rfl

end Body

end Cert.Proof.LayerRow

end
-- ==== Proof.Launch.lean ====
/-
  The whole program's run: @main flattens the number and the table, starts the SparseCore call and waits for it, and gives
  the fetched row its leading axis; what every buffer of the claim holds at the end.
-/
module

public import proofs.«01_k».proof.Proof.Body

@[expose] public section

noncomputable section

namespace Cert.Proof.LayerRow

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within reshape_result reshape_result_ne)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the arrays hold -/

abbrev layerLoc (d : Dev nD) : Loc nD τ sig := (SparseCore.T d).loc main_arg0
abbrev embLoc (d : Dev nD) : Loc nD τ sig := (SparseCore.T d).loc main_arg1
abbrev resLoc (d : Dev nD) : Loc nD τ sig := (SparseCore.T d).loc main_v3

/-- The layer asked for: the one word of the first argument. -/
def word (d : Dev nD) : BitVec 32 := (m (layerLoc d) : S_.Idx → BitVec 32) fun a => a.elim0

/-- The second argument as a 48 × 4096 table. -/
def table (d : Dev nD) : S48x4096.Idx → Elt F .f32 :=
  shapeCast S48x4096 (m (embLoc d) : S48x1x1x4096.Idx → Elt F .f32) shapeCasts_S48x1x1x4096_S48x4096

variable (hpre : ∀ d, k0_chk1 (word m d))

/-- The result: the layer's row of the table, at the shape the program returns. -/
def result (d : Dev nD) : S1x1x4096.Idx → Elt F .f32 :=
  shapeCast S1x1x4096 (rowOf (table m d) (word m d) (hpre d)) shapeCasts_S1x4096_S1x1x4096

/-! ## The call's payloads and obligation -/

def P : (K (F := F)).Pay (nD := nD) (Val := Elt F) (Name := ℕ) (U := UU) where
  st := fun _ d _ => handed d (word m d) (table m d)
  dn := fun _ d _ => returned d (word m d) (hpre d) (table m d)
  go := fun _ _ _ _ => iprop(emp)
  td := fun _ _ _ _ => iprop(emp)
  x := fun _ _ => iprop(emp)

instance P_storable : (P m hpre).IsStorable where
  st _ d c := by unfold P; infer_instance
  dn _ d c := by unfold P; infer_instance
  go _ _ _ _ := by unfold P; infer_instance
  td _ _ _ _ := by unfold P; infer_instance

/-- The call's obligation: its one sequencer runs `seq_task`. -/
theorem scalarObl : (K (F := F)).ScalarObl (D (F := F)) 𝒱 (P m hpre) v₀ 0 := by
  intro d c O W hO _ _
  simp only [show (P m hpre).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_row]; simp only [SparseCore.onCore, hc, ↓reduceDIte]
  match c with
  | ⟨0, h⟩ => exact seq_task d h O W hO (word m d) (hpre d) (table m d)

/-! ## The launch element -/

def u₀ : UU := (initOf (K (F := F)).hsCells (K (F := F)).hsToks, 1)

omit [FloatOps F] in
/-- Empty shares, however many, are empty. -/
theorem no_shares {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hpre).x q thr) := by
  unfold u₀
  iintro Hu
  ihave H := (ownU_pair _ _) $$ Hu
  icases H with ⟨HH, -⟩
  imodintro
  isplitl [HH]; · iexact HH
  isplitr; · rw [no_shares]; iempintro
  rw [show (bigSep Finset.univ fun thr : Thread nD τ => bigSep Finset.univ fun q : Fin 1 => (P m hpre).x q thr) = bigSep Finset.univ fun _ => iprop(emp) from
    bigSep_congr fun _ _ => no_shares _, no_shares]
  iempintro

/-! ## @main -/

abbrev a0' : DevRef τ sig := Proc.devRef .tc (main_arg0 : Ref sig .tc)
abbrev a1' : DevRef τ sig := Proc.devRef .tc (main_arg1 : Ref sig .tc)
abbrev i' : DevRef τ sig := Proc.devRef .tc (main_v0 : Ref sig .tc)
abbrev t' : DevRef τ sig := Proc.devRef .tc (main_v1 : Ref sig .tc)
abbrev o' : DevRef τ sig := Proc.devRef .tc (main_v2 : Ref sig .tc)
abbrev r' : DevRef τ sig := Proc.devRef .tc (main_v3 : Ref sig .tc)

abbrev opI : HloOp τ sig (Elt F) := StableHlo.reshape main_arg0 main_v0 (rfl : (.i32 : EltTy) = .i32) shapeCasts_S_S1
abbrev opT : HloOp τ sig (Elt F) := StableHlo.reshape main_arg1 main_v1 (rfl : (.f32 : EltTy) = .f32) shapeCasts_S48x1x1x4096_S48x4096
abbrev opR : HloOp τ sig (Elt F) := StableHlo.reshape main_v2 main_v3 (rfl : (.f32 : EltTy) = .f32) shapeCasts_S1x4096_S1x1x4096

/-- @main's arrays. -/
abbrev S6 : Finset (DevRef τ sig) := {a0', a1', i', t', o', r'}

omit [FloatOps F] in
theorem held_S6 (d : Dev nD) (W : Valuation τ sig (Elt F)) :
    (held (T d) S6 W : sProp 𝕄) = iprop((layerLoc d ↦{fullShare} W a0') ∗ (embLoc d ↦{fullShare} W a1') ∗ (idxLoc d ↦{fullShare} W i')
      ∗ (tblLoc d ↦{fullShare} W t') ∗ (outLoc d ↦{fullShare} W o') ∗ resLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- The launch's contents. -/
def V0 (d : Dev nD) : Valuation τ sig (Elt F) := fun b => m (d, b)

theorem unscoped_held (d : Dev nD) : (unscopedBufs d (fun b => m ((SparseCore.T d).loc b)) : sProp 𝕄) = held (T d) S6 (V0 m d) := by
  rw [held_S6]
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]
  rfl

/-- The contents before the call, and after it. -/
def V2 (d : Dev nD) : Valuation τ sig (Elt F) := (opT (F := F)).result ((opI (F := F)).result (V0 m d))
def V3 (d : Dev nD) : Valuation τ sig (Elt F) :=
  Function.update (V2 m d) o' (rowOf (table m d) (word m d) (hpre d) : S1x4096.Idx → Elt F .f32)

theorem V2_a0 (d : Dev nD) : V2 m d a0' = m (layerLoc d) := by
  unfold V2; rw [reshape_result_ne _ _ _ _ _, reshape_result_ne _ _ _ _ _]<;> first | decide | rfl
theorem V2_a1 (d : Dev nD) : V2 m d a1' = m (embLoc d) := by
  unfold V2; rw [reshape_result_ne _ _ _ _ _, reshape_result_ne _ _ _ _ _]<;> first | decide | rfl
theorem V2_i (d : Dev nD) : V2 m d i' = (fun _ => word m d : S1.Idx → BitVec 32) := by
  unfold V2; rw [reshape_result_ne _ _ _ _ _ (h := (by decide : main_v0 ≠ main_v1)), reshape_result]
  funext j
  show (m (layerLoc d) : S_.Idx → BitVec 32) _ = (m (layerLoc d) : S_.Idx → BitVec 32) _
  exact congrArg _ (funext fun a => a.elim0)
theorem V2_t (d : Dev nD) : V2 m d t' = (table m d : S48x4096.Idx → Elt F .f32) := by
  unfold V2; rw [reshape_result, reshape_result_ne _ _ _ _ _]<;> first | decide | rfl

theorem V3_ne (d : Dev nD) (b : DevRef τ sig) (h : b ≠ o') : V3 m hpre d b = V2 m d b := Function.update_of_ne h _ _
theorem V3_o (d : Dev nD) : V3 m hpre d o' = (rowOf (table m d) (word m d) (hpre d) : S1x4096.Idx → Elt F .f32) := Function.update_self _ _ _

theorem V4_r (d : Dev nD) : (opR (F := F)).result (V3 m hpre d) r' = (result m hpre d : S1x1x4096.Idx → Elt F .f32) := by
  rw [reshape_result, V3_o]; rfl
theorem V4_a0 (d : Dev nD) : (opR (F := F)).result (V3 m hpre d) a0' = m (layerLoc d) := by
  rw [reshape_result_ne _ _ _ _ _, V3_ne _ _ _ _ (by decide), V2_a0] <;> decide
theorem V4_a1 (d : Dev nD) : (opR (F := F)).result (V3 m hpre d) a1' = m (embLoc d) := by
  rw [reshape_result_ne _ _ _ _ _, V3_ne _ _ _ _ (by decide), V2_a1] <;> decide

/-- What the call takes, and gives back: its one SparseCore's share. -/
theorem st_eq (d : Dev nD) : (bigSep Finset.univ fun c : Fin ((K (F := F)).nCore 0) => (P m hpre).st 0 d c) = handed d (word m d) (table m d) := by
  show (bigSep (Finset.univ : Finset (Fin 1)) fun _ => _) = _
  rw [show (Finset.univ : Finset (Fin 1)) = {0} by decide, bigSep_singleton]; rfl
theorem dn_eq (d : Dev nD) : (bigSep Finset.univ fun c : Fin ((K (F := F)).nCore 0) => (P m hpre).dn 0 d c) = returned d (word m d) (hpre d) (table m d) := by
  show (bigSep (Finset.univ : Finset (Fin 1)) fun _ => _) = _
  rw [show (Finset.univ : Finset (Fin 1)) = {0} by decide, bigSep_singleton]; rfl

/-- What @main leaves the claim: the arguments as they were, and the result. -/
abbrev FIN (d : Dev nD) : sProp 𝕄 :=
  iprop((layerLoc d ↦{fullShare} m (layerLoc d)) ∗ (embLoc d ↦{fullShare} m (embLoc d))
    ∗ resLoc d ↦{fullShare} (result m hpre d : S1x1x4096.Idx → Elt F .f32))

theorem hmain (κ : GSem nD τ sig → ℕ) (d : Dev nD) :
    iprop((K (F := F)).ctx EH (P m hpre) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hpre d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opI) (S := S6) (show ({a0', i'} : Finset (DevRef τ sig)) ⊆ S6 by decide) (V := V0 m d)) $$ [Hb Hheld]
  · isplitl [Hb] <;> iassumption
  iintro ⟨Hb, Hheld⟩
  rw [wp_ret]; imodintro
  iapply (wp_hlo_within 𝒱 (SparseCore.T d) none Set.univ (op := opT) (S := S6) (show ({a1', t'} : Finset (DevRef τ sig)) ⊆ S6 by decide)
    (V := (opI (F := F)).result (V0 m d))) $$ [Hb Hheld]
  · isplitl [Hb] <;> iassumption
  iintro ⟨Hb, Hheld⟩
  rw [wp_ret]; imodintro
  ihave Hh := (Entails.of_eq (show held (SparseCore.T d) S6 ((opT (F := F)).result ((opI (F := F)).result (V0 m d))) = _ from held_S6 (F := F) d (V2 m d))) $$ Hheld
  rw [V2_i, V2_t]
  icases Hh with ⟨H0, H1, Hi, Ht, Ho, Hr⟩
  iapply ((K (F := F)).wp_run (D (F := F)) 𝒱 (EH := EH) (P := P m hpre) κ d 0) $$ [Hst Hi Ht Ho Hb H0 H1 Hr Hts]
  isplitr; · iexact Hctx
  isplitl [Hst]; · iexact Hst
  isplitl [Hi Ht Ho]
  · rw [st_eq]
    isplitl [Hi]; · iexact Hi
    isplitl [Ht]; · iexact Ht
    iexists _; iexact Ho
  iintro ⟨Hst, Hdn⟩
  ihave Hdn' := (Entails.of_eq (dn_eq m hpre d)) $$ Hdn
  icases Hdn' with ⟨Hi, Ht, Ho⟩
  iapply (wp_hlo_within 𝒱 (SparseCore.T d) none Set.univ (op := opR) (S := S6) (show ({o', r'} : Finset (DevRef τ sig)) ⊆ S6 by decide)
    (V := V3 m hpre d)) $$ [Hb H0 H1 Hi Ht Ho Hr]
  · isplitl [Hb]; · iexact Hb
    rw [held_S6, V3_o, V3_ne m hpre d a0' (by decide), V3_ne m hpre d a1' (by decide), V3_ne m hpre d i' (by decide),
      V3_ne m hpre d t' (by decide), V3_ne m hpre d r' (by decide), V2_i, V2_t]
    isplitl [H0]; · iexact H0
    isplitl [H1]; · iexact H1
    isplitl [Hi]; · iexact Hi
    isplitl [Ht]; · iexact Ht
    isplitl [Ho]; · iexact Ho
    iexact Hr
  iintro ⟨Hb, Hheld⟩
  ihave Hh := (Entails.of_eq (held_S6 (F := F) d _)) $$ Hheld
  rw [V4_r, V4_a0, V4_a1]
  icases Hh with ⟨H0, H1, -, -, -, Hr⟩
  rw [wp_ret]; imodintro; imodintro
  isplitl [Hst]; · iexact Hst
  isplitr [Hb Hts]
  · isplitl [H0]; · iexact H0
    isplitl [H1]; · iexact H1
    iexact Hr
  isplitl [Hb] <;> iassumption

/-! ## The program's run -/

def fq (d : Dev nD) (s' : Phys nD τ sig (Elt F)) : Prop :=
  s'.mem.mem (layerLoc d) = m (layerLoc d) ∧ s'.mem.mem (embLoc d) = m (embLoc d)
    ∧ s'.mem.mem (resLoc d) = (result m hpre d : S1x1x4096.Idx → Elt F .f32)

omit [FloatOps F] in
/-- An array held whole at `f` holds `f` in the memory. -/
theorem read_whole (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m hpre d ∗ SI s') ⊢ (⌜fq m hpre d s'⌝ : sProp 𝕄) := fun x hx =>
  ⟨((sep_mono_left sep_elim_left).trans (read_whole (layerLoc d) _ s')) x hx,
    ((sep_mono_left (sep_elim_right.trans sep_elim_left)).trans (read_whole (embLoc d) _ s')) x hx,
    ((sep_mono_left (sep_elim_right.trans sep_elim_right)).trans (read_whole (resLoc d) _ s')) x hx⟩

/-- What the run leaves: on every device the result and the arguments, and every semaphore counter at zero. -/
def Post (r : PUnit × MemSt nD τ sig (Elt F)) : Prop :=
  (∀ d : Dev nD, r.2.mem (layerLoc d) = m (layerLoc d) ∧ r.2.mem (embLoc d) = m (embLoc d)
    ∧ r.2.mem (resLoc d) = (result m hpre d : S1x1x4096.Idx → Elt F .f32)) ∧ r.2.sem = fun _ => 0

/-- Every weakly fair execution of the program, from a memory whose layer names a row of the table, ends at `Post`. -/
theorem run_main [∀ e, Nonempty (Elt F e)] : θ_run (Cert.KernelIdeal.defs (F := F)) (Cert.KernelIdeal.threads (F := F)) ⟨m, fun _ => 0, ρ⟩ (Post m hpre) :=
  SparseCore.Cfg.θ_run_sc_quiescent (K := K (F := F)) (D := D (F := F)) (𝒱 := 𝒱) (EH := EH) (P := P m hpre) (A := ∅) kFacts v₀
    (fun q _ => match q with | 0 => scalarObl m hpre)
    (fun q hq => match q with | 0 => nomatch hq)
    (fun q hq => match q with | 0 => nomatch hq)
    m ρ main (fun _ => iprop(emp)) (FIN m hpre) (u₀ (F := F)) (sep_elim_left.trans (hu₀ m hpre)) (hmain m ρ hpre) (fq m hpre) (hfin m hpre)
    (Post m hpre) (fun _ h hz => ⟨h, hz⟩)

end Cert.Proof.LayerRow

end
-- ==== Proof.Value.lean ====
/-
  The values of the two programs. What the precondition says of the layer: as a natural number it is below 48, so the
  kernel's copy lies inside the table. What both programs return: element j of the result is element j of that layer's
  row. The kernel reaches it through a 48 × 4096 table, the reference through a slice of the whole array.
-/
module

public import proofs.«01_k».proof.Proof.Launch
public import proofs.«01_k».proof.Proof.Gen.ReferenceIdeal
public import proofs.«01_k».proof.Proof.Gen.Pre_layer_in_range
public import Idealize.ShloMosaic.Lib.Claim
public import Idealize.ShloMosaic.Lib.WordCmp
public import Idealize.ShloMosaic.Lib.Pointwise

@[expose] public section

noncomputable section

namespace Cert.Proof.LayerRow

open Idealize.ShloMosaic Idealize.ShloMosaic.WordCmp Idealize.SL.Sem

variable {F : FTy → Type} [FloatOps F]

/-- The result of both programs: row `w` of the array, kept at the shape the programs return. -/
def layerRow {α : Type} (x : Cert.KernelIdeal.S48x1x1x4096.Idx → α) (w : BitVec 32) (hw : w.toNat < 48) :
    Cert.KernelIdeal.S1x1x4096.Idx → α := fun j => x (ValueIdx.ix4 ⟨w.toNat, hw⟩ 0 0 (j 2))

/-- The row depends on the array and the word alone. -/
theorem layerRow_congr {α : Type} {x x' : Cert.KernelIdeal.S48x1x1x4096.Idx → α} (hx : x = x') {w w' : BitVec 32} (hww : w = w')
    (hw : w.toNat < 48) (hw' : w'.toNat < 48) : layerRow x w hw = layerRow x' w' hw' := by
  subst hx; subst hww; rfl

/-! ## The layer -/

/-- The precondition, read: the layer's word is a natural number below 48. -/
theorem layer_lt (a : Cert.Pre_layer_in_range.S_.Idx → BitVec 32) (b : Cert.Pre_layer_in_range.S48x1x1x4096.Idx → Elt F .f32)
    (h : Cert.Pre_layer_in_range.fn (F := F) a b = fun _ => 1#1) : (a fun k => k.elim0).toNat < 48 := by
  have h0 : IntOp.andi (IntOp.cmpi .sge (a fun k => k.elim0) 0#32) (IntOp.cmpi .slt (a fun k => k.elim0) 48#32) = 1#1 :=
    congrFun h fun k => k.elim0
  rw [show (48#32) = BitVec.ofNat 32 48 from rfl, andi_sge_zero_slt_ofNat (by decide)] at h0
  by_contra hn
  rw [decide_eq_false hn] at h0
  exact absurd h0 (by decide)

/-- A layer below 48 is a row of the table. -/
theorem row_inside {w : BitVec 32} (hw : w.toNat < 48) : Cert.KernelIdeal.k0_chk1 w := by
  intro a
  match a with
  | ⟨0, _⟩ => show w.toNat + 1 ≤ 48; omega
  | ⟨1, _⟩ => show 0 + 4096 ≤ 4096; omega

/-! ## The kernel's result -/

open Cert.KernelIdeal in
/-- The kernel's result is the layer's row. -/
theorem result_eq (m : (ℓ : Loc nD τ sig) → Buf (Elt F) ℓ) (hpre : ∀ d, k0_chk1 (word m d)) (d : Dev nD) (hw : (word m d).toNat < 48) :
    result m hpre d = layerRow (m (embLoc d) : S48x1x1x4096.Idx → Elt F .f32) (word m d) hw := by
  funext j
  have h0 : (j 0).val = 0 := Nat.lt_one_iff.mp (j 0).isLt
  have h1 : (j 1).val = 0 := Nat.lt_one_iff.mp (j 1).isLt
  refine (shapeCast_apply _ _ j (ValueIdx.ix2 (0 : Fin 1) (j 2)) ?_).trans ?_
  · rw [Shape.rowMajor_val_two, Shape.rowMajor_val_three]
    show 0 * 4096 + (j 2).val = ((j 0).val * 1 + (j 1).val) * 4096 + (j 2).val
    omega
  · refine shapeCast_apply _ _ _ (ValueIdx.ix4 ⟨(word m d).toNat, hw⟩ 0 0 (j 2)) ?_
    rw [Shape.rowMajor_val_four, Shape.rowMajor_val_two]
    show ((((word m d).toNat * 1 + 0) * 1 + 0) * 4096 + (j 2).val) = ((word m d).toNat + 0) * 4096 + (0 + (j 2).val)
    omega

/-! ## The reference's run -/

section Ref
open Cert.ReferenceIdeal Cert.ReferenceIdeal.Gen

/-- The slice the reference takes, at an index of the result. -/
theorem slice_apply {α : Type} (x : S48x1x1x4096.Idx → α) (start : Fin 4 → Int) (w : BitVec 32) (hw : w.toNat < 48)
    (h : ∀ a, start a = ((![w.toNat, 0, 0, 0] : Fin 4 → Nat) a : Int)) (j : S1x1x4096.Idx) :
    shapeCast S1x1x4096 (Host.dynamicSlice S1x1x1x4096 x start sliceFits_S48x1x1x4096_S1x1x1x4096) shapeCasts_S1x1x1x4096_S1x1x4096 j
      = layerRow x w hw j := by
  have hs : S48x1x1x4096.Slices ![w.toNat, 0, 0, 0] S1x1x1x4096 := ⟨rfl, fun a => by
    match a with
    | ⟨0, _⟩ => show w.toNat + 1 ≤ 48; omega
    | ⟨1, _⟩ => show 0 + 1 ≤ 1; omega
    | ⟨2, _⟩ => show 0 + 1 ≤ 1; omega
    | ⟨3, _⟩ => show 0 + 4096 ≤ 4096; omega⟩
  have h0 : (j 0).val = 0 := Nat.lt_one_iff.mp (j 0).isLt
  have h1 : (j 1).val = 0 := Nat.lt_one_iff.mp (j 1).isLt
  rw [dynamicSlice_eq_extract S1x1x1x4096 x start _ _ hs h]
  refine (shapeCast_apply _ _ j (ValueIdx.ix4 (0 : Fin 1) (0 : Fin 1) (0 : Fin 1) (j 2)) ?_).trans ?_
  · rw [Shape.rowMajor_val_four, Shape.rowMajor_val_three]
    show ((0 * 1 + 0) * 1 + 0) * 4096 + (j 2).val = ((j 0).val * 1 + (j 1).val) * 4096 + (j 2).val
    omega
  · refine extractStridedSlice_apply _ _ hs _ (ValueIdx.ix4 ⟨w.toNat, hw⟩ 0 0 (j 2)) fun a => ?_
    match a with
    | ⟨0, _⟩ => rfl
    | ⟨1, _⟩ => rfl
    | ⟨2, _⟩ => rfl
    | ⟨3, _⟩ => exact (Nat.zero_add _).symm

/-- The wrap of a negative index leaves a layer below 48 as it is. -/
theorem wrap_layer (a d : S_.Idx → BitVec 32) (i : S_.Idx) (h : (a i).toNat < 48) :
    BitVec.toInt (select (cmpi .slt a (constantI S_ 32 0#32)) d a i) = ((a i).toNat : Int) := by
  have e : (a i).toInt = ((a i).toNat : Int) := toInt_eq_toNat_of_lt_half (Nat.lt_trans h (by decide))
  show BitVec.toInt (Scalar.select (IntOp.cmpi .slt (a i) 0#32) (d i) (a i)) = _
  rw [cmpi_slt_zero, decide_eq_false (Nat.not_le.mpr (Nat.lt_trans h (by decide)))]
  exact e

variable (m : (ℓ : Loc nD τ sig) → Buf (Elt F) ℓ) (g : Dev nD → PrngReg)

/-- The layer the reference is given. -/
abbrev refWord (c : Dev nD) : BitVec 32 := (m ((c.tc : Thread nD τ).loc main_arg0) : S_.Idx → BitVec 32) fun a => a.elim0

/-- The reference, from a memory whose layer is below 48: the layer's row, and the arguments as they were. -/
theorem ref_run (hw : ∀ c, (refWord m c).toNat < 48) :
    θ_run (defs (F := F)) (onTc (τ := τ) (main (F := F))) ⟨m, fun _ => 0, g⟩ fun r => ∀ c : Dev nD,
      r.2.mem ((c.tc : Thread nD τ).loc main_v13) = (layerRow (m ((c.tc : Thread nD τ).loc main_arg1) : S48x1x1x4096.Idx → Elt F .f32) (refWord m c) (hw c) : S1x1x4096.Idx → Elt F .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  funext j
  refine slice_apply _ _ (refWord m c) (hw c) (fun a => ?_) j
  generalize hV : (StableHlo.ternary main_v9 main_v10 main_c_15 main_v11 _ _ _ _ _).result _ = V
  match a with
  | ⟨0, _⟩ =>
    show BitVec.toInt ((V (Proc.devRef .tc main_v2) : S_.Idx → BitVec 32) (Shape.Idx.first h_S_)) = ((refWord m c).toNat : Int)
    rw [show (V (Proc.devRef .tc main_v2) : S_.Idx → BitVec 32) = select (cmpi .slt (m ((c.tc : Thread nD τ).loc main_arg0)) (constantI S_ 32 0#32))
      (addi (m ((c.tc : Thread nD τ).loc main_arg0)) (constantI S_ 32 48#32)) (m ((c.tc : Thread nD τ).loc main_arg0)) by rw [← hV]; after_results_simp]
    have hi : (Shape.Idx.first h_S_ : S_.Idx) = fun a => a.elim0 := funext fun a => a.elim0
    rw [hi]
    exact wrap_layer (m ((c.tc : Thread nD τ).loc main_arg0)) _ _ (hw c)
  | ⟨1, _⟩ =>
    show BitVec.toInt ((V (Proc.devRef .tc main_v5) : S_.Idx → BitVec 32) (Shape.Idx.first h_S_)) = 0
    rw [← hV]; after_results_simp; rfl
  | ⟨2, _⟩ =>
    show BitVec.toInt ((V (Proc.devRef .tc main_v8) : S_.Idx → BitVec 32) (Shape.Idx.first h_S_)) = 0
    rw [← hV]; after_results_simp; rfl
  | ⟨3, _⟩ =>
    show BitVec.toInt ((V (Proc.devRef .tc main_v11) : S_.Idx → BitVec 32) (Shape.Idx.first h_S_)) = 0
    rw [← hV]; after_results_simp; rfl

end Ref

end Cert.Proof.LayerRow

end
-- ==== Proof.lean ====
/-
  The claim about the row copy, assembled. The kernel's run (Proof/Launch.lean, over its body's in Proof/Body.lean) is
  proved once, over any model of floats, from a memory whose layer is below 48. The kernel printed for the bits and the
  one printed for the extended reals are the same text, so that one run serves both. The reference's run
  (Proof/Value.lean) is proved once likewise. Each conjunct below reads one or both of these runs. The kernel only
  moves data, so the two programs return equal bits.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Pre_layer_in_range
public import proofs.«01_k».proof.Proof.Value
public import Idealize.ShloMosaic.Adequacy
public import Idealize.ShloMosaic.Init

@[expose] public section

noncomputable section

namespace Cert.Proof

open Idealize.ShloMosaic Idealize.SL.Sem
open Cert.Proof.LayerRow

/-! ## The kernel's frames -/

/-- The kernel at the extended reals. -/
theorem frame_pi : Cert.quiescent_KernelIdeal := by
  intro m g hpre
  have hw : ∀ d, (word m d).toNat < 48 := fun d => layer_lt _ _ (hpre d)
  exact θ_run_mono (run_main m g fun d => row_inside (hw d)) fun _ h => ⟨fun d => ⟨(h.1 d).1, (h.1 d).2.1⟩, h.2⟩

/-- The kernel at the bits: the same run, the two printed programs being one text. -/
theorem frame_p : Cert.quiescent_Kernel := by
  intro m g hpre
  have hw : ∀ d, (word (F := Bits) m d).toNat < 48 := fun d => layer_lt _ _ (hpre d)
  exact (θ_run Cert.KernelIdeal.defs _ _).mono (fun _ h => ⟨fun d => ⟨(h.1 d).1, (h.1 d).2.1⟩, h.2⟩)
    (run_main (F := Bits) m g fun d => row_inside (hw d))

/-! ## The reference's frames: it declares no semaphore -/

/-- The reference at the extended reals, from any memory. -/
theorem frame_ri : Cert.quiescent_ReferenceIdeal := by
  intro m g _
  refine θ_run_mono (Q := fun r => ∀ c : Dev Cert.ReferenceIdeal.nD,
    r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
        = m ((c.tc : Thread Cert.ReferenceIdeal.nD Cert.ReferenceIdeal.τ).loc Cert.ReferenceIdeal.main_arg1)) ?_
    fun r h => ⟨h, sem_eq_zero_of_no_sems (by decide) r.2⟩
  hlo_run

/-- The same where the layer is in range. -/
theorem frame_ri_pre : Cert.quiescent_ReferenceIdeal_pre_layer_in_range := fun m g _ => frame_ri m g trivial

/-- The reference at the bits. -/
theorem frame_r : Cert.quiescent_Reference := by
  intro m g hpre
  exact θ_run_mono (ref_run (F := Bits) m g fun c => layer_lt _ _ (hpre c))
    fun r h => ⟨fun c => (h c).2, sem_eq_zero_of_no_sems (by decide) r.2⟩

/-! ## The values -/

/-- At the extended reals the kernel and the reference return the same row. -/
theorem algebraic : Cert.algebraic_KernelIdeal_ReferenceIdeal := by
  intro m g m' g' hpre hagree
  have hw : ∀ d, (word m d).toNat < 48 := fun d => layer_lt _ _ (hpre d)
  have he : ∀ d, refWord m' d = word m d := fun d => congrFun (hagree d).1 _
  have hw' : ∀ d, (refWord m' d).toNat < 48 := fun d => (he d).symm ▸ hw d
  refine ⟨fun d => layerRow (m (embLoc d)) (word m d) (hw d), ?_, ?_⟩
  · exact θ_run_mono (run_main m g fun d => row_inside (hw d))
      fun _ h d => ⟨((h.1 d).2.2).trans (result_eq m _ d (hw d)), (h.1 d).1, (h.1 d).2.1⟩
  · exact θ_run_mono (ref_run m' g' hw')
      fun _ h d => ⟨((h d).1).trans (layerRow_congr (hagree d).2 (he d) (hw' d) (hw d)), (h d).2⟩

/-- At the bits too. -/
theorem bitexact : Cert.bitexact_Kernel_Reference := by
  intro m g m' g' hpre hagree
  have hw : ∀ d, (word (F := Bits) m d).toNat < 48 := fun d => layer_lt _ _ (hpre d)
  have he : ∀ d, refWord (F := Bits) m' d = word (F := Bits) m d := fun d => congrFun (hagree d).1 _
  have hw' : ∀ d, (refWord (F := Bits) m' d).toNat < 48 := fun d => (he d).symm ▸ hw d
  refine ⟨fun d => layerRow (m (embLoc d)) (word (F := Bits) m d) (hw d), ?_, ?_⟩
  · exact (θ_run Cert.KernelIdeal.defs _ _).mono
      (fun _ h d => ⟨((h.1 d).2.2).trans (result_eq (F := Bits) m _ d (hw d)), (h.1 d).1, (h.1 d).2.1⟩)
      (run_main (F := Bits) m g fun d => row_inside (hw d))
  · exact (θ_run Cert.ReferenceIdeal.defs _ _).mono
      (fun _ h d => ⟨((h d).1).trans (layerRow_congr (hagree d).2 (he d) (hw' d) (hw d)), (h d).2⟩)
      (ref_run (F := Bits) m' g' hw')

/-- Everything claimed. The idealized kernel prints no operation changed, so `preserves` asks for nothing more. -/
theorem claim : Cert.Claim :=
  ⟨Cert.Kernel.Gen.facts, Cert.KernelIdeal.Gen.facts, Cert.ReferenceIdeal.Gen.facts, Cert.Reference.Gen.facts,
    Cert.Pre_layer_in_range.Gen.facts, frame_p, frame_pi, frame_ri, frame_ri_pre, frame_r, trivial, algebraic, bitexact⟩

end Cert.Proof

end
